-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "floor_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x768x32x32 : Shape := ⟨4, ![8, 768, 32, 32]⟩
abbrev S1x768x1x1 : Shape := ⟨4, ![1, 768, 1, 1]⟩
abbrev S768x768 : Shape := ⟨2, ![768, 768]⟩
abbrev S768x256 : Shape := ⟨2, ![768, 256]⟩
abbrev S768 : Shape := ⟨1, ![768]⟩
abbrev S8x768x1024 : Shape := ⟨3, ![8, 768, 1024]⟩
abbrev S8x256x1024 : Shape := ⟨3, ![8, 256, 1024]⟩
abbrev S1x768x1024 : Shape := ⟨3, ![1, 768, 1024]⟩
abbrev S1x256x1024 : Shape := ⟨3, ![1, 256, 1024]⟩
abbrev S768x1024 : Shape := ⟨2, ![768, 1024]⟩
abbrev S1024 : Shape := ⟨1, ![1024]⟩
abbrev S1x1024 : Shape := ⟨2, ![1, 1024]⟩
abbrev S768x1 : Shape := ⟨2, ![768, 1]⟩
abbrev S256x1024 : Shape := ⟨2, ![256, 1024]⟩
abbrev S8x8x1024x32 : Shape := ⟨4, ![8, 8, 1024, 32]⟩
abbrev S1x8x1024x32 : Shape := ⟨4, ![1, 8, 1024, 32]⟩
abbrev S32x8 : Shape := ⟨2, ![32, 8]⟩
abbrev S1x1x1024x32 : Shape := ⟨4, ![1, 1, 1024, 32]⟩
abbrev S1024x32 : Shape := ⟨2, ![1024, 32]⟩
abbrev S1024x8 : Shape := ⟨2, ![1024, 8]⟩
abbrev S1024x1 : Shape := ⟨2, ![1024, 1]⟩
abbrev S32x1024 : Shape := ⟨2, ![32, 1024]⟩
abbrev S1024x1024 : Shape := ⟨2, ![1024, 1024]⟩
abbrev S1024x40 : Shape := ⟨2, ![1024, 40]⟩
abbrev S32x32x32 : Shape := ⟨3, ![32, 32, 32]⟩

abbrev nBuf : Space → Nat
  | .hbm => 19
  | .vmem => 21
  | .smem => 0
  | _ => 0

abbrev bufTy : (tb : Table) → Fin (tcTables nBuf tb) → BufTy
  | .hbm, ⟨0, _⟩ => ⟨S8x768x32x32, .f32⟩
  | .hbm, ⟨1, _⟩ => ⟨S1x768x1x1, .f32⟩
  | .hbm, ⟨2, _⟩ => ⟨S1x768x1x1, .f32⟩
  | .hbm, ⟨3, _⟩ => ⟨S768x768, .f32⟩
  | .hbm, ⟨4, _⟩ => ⟨S768x256, .f32⟩
  | .hbm, ⟨5, _⟩ => ⟨S768, .f32⟩
  | .hbm, ⟨6, _⟩ => ⟨S8x768x1024, .f32⟩
  | .hbm, ⟨7, _⟩ => ⟨S768, .f32⟩
  | .hbm, ⟨8, _⟩ => ⟨S768, .f32⟩
  | .hbm, ⟨9, _⟩ => ⟨S768x768, .bf16⟩
  | .hbm, ⟨10, _⟩ => ⟨S768x256, .bf16⟩
  | .hbm, ⟨11, _⟩ => ⟨S8x256x1024, .bf16⟩
  | .hbm, ⟨12, _⟩ => ⟨S8x256x1024, .bf16⟩
  | .hbm, ⟨13, _⟩ => ⟨S8x256x1024, .bf16⟩
  | .hbm, ⟨14, _⟩ => ⟨S8x8x1024x32, .bf16⟩
  | .hbm, ⟨15, _⟩ => ⟨S8x8x1024x32, .bf16⟩
  | .hbm, ⟨16, _⟩ => ⟨S8x8x1024x32, .bf16⟩
  | .hbm, ⟨17, _⟩ => ⟨S8x768x1024, .f32⟩
  | .hbm, ⟨18, _⟩ => ⟨S8x768x32x32, .f32⟩
  | .local _ .vmem, ⟨0, _⟩ => ⟨S1x768x1024, .f32⟩
  | .local _ .vmem, ⟨1, _⟩ => ⟨S1x768x1024, .f32⟩
  | .local _ .vmem, ⟨2, _⟩ => ⟨S768, .f32⟩
  | .local _ .vmem, ⟨3, _⟩ => ⟨S768, .f32⟩
  | .local _ .vmem, ⟨4, _⟩ => ⟨S768x768, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x8x1024x32, .bf16⟩
  | .local _ .vmem, ⟨12, _⟩ => ⟨S1x8x1024x32, .bf16⟩
  | .local _ .vmem, ⟨13, _⟩ => ⟨S1x8x1024x32, .bf16⟩
  | .local _ .vmem, ⟨14, _⟩ => ⟨S1x8x1024x32, .bf16⟩
  | .local _ .vmem, ⟨15, _⟩ => ⟨S1x8x1024x32, .bf16⟩
  | .local _ .vmem, ⟨16, _⟩ => ⟨S1x8x1024x32, .bf16⟩
  | .local _ .vmem, ⟨17, _⟩ => ⟨S768x256, .bf16⟩
  | .local _ .vmem, ⟨18, _⟩ => ⟨S768, .f32⟩
  | .local _ .vmem, ⟨19, _⟩ => ⟨S1x768x1024, .f32⟩
  | .local _ .vmem, ⟨20, _⟩ => ⟨S1x768x1024, .f32⟩
  | _, _ => ⟨S8x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8x1024x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x1024x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x8x1024x32 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S768x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x768x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== KernelIdeal.lean ====
variable {F : FTy → Type} [FloatOps F] [Named F]
def κ : String → Option EReal := fun
  | "floor_sq" => some ((5316911940649 / 5316911983139663491615228241121378304 : ℝ) : EReal)
  | _ => none
-- ==== ReferenceIdeal.lean ====
abbrev S8x768x32x32 : Shape := ⟨4, ![8, 768, 32, 32]⟩
abbrev S1x768x1x1 : Shape := ⟨4, ![1, 768, 1, 1]⟩
abbrev S768x768 : Shape := ⟨2, ![768, 768]⟩
abbrev S768x256 : Shape := ⟨2, ![768, 256]⟩
abbrev S768 : Shape := ⟨1, ![768]⟩
abbrev S_ : Shape := ⟨0, ![]⟩
abbrev S8x32x32 : Shape := ⟨3, ![8, 32, 32]⟩
abbrev S8x1x32x32 : Shape := ⟨4, ![8, 1, 32, 32]⟩
abbrev S768x8x32x32 : Shape := ⟨4, ![768, 8, 32, 32]⟩
abbrev S8x256x32x32 : Shape := ⟨4, ![8, 256, 32, 32]⟩
abbrev S8x8x32x32x32 : Shape := ⟨5, ![8, 8, 32, 32, 32]⟩
abbrev S8x8x32x32 : Shape := ⟨4, ![8, 8, 32, 32]⟩
abbrev S8x8x32x32x1 : Shape := ⟨5, ![8, 8, 32, 32, 1]⟩
abbrev S64x1024x32 : Shape := ⟨3, ![64, 1024, 32]⟩
abbrev S64x1024x1024 : Shape := ⟨3, ![64, 1024, 1024]⟩
abbrev S64x1024 : Shape := ⟨2, ![64, 1024]⟩
abbrev S64x1024x1 : Shape := ⟨3, ![64, 1024, 1]⟩

abbrev nBuf : Space → Nat
  | .hbm => 88
  | .vmem => 0
  | .smem => 0
  | _ => 0

abbrev bufTy : (tb : Table) → Fin (tcTables nBuf tb) → BufTy
  | .hbm, ⟨0, _⟩ => ⟨S8x768x32x32, .f32⟩
  | .hbm, ⟨1, _⟩ => ⟨S1x768x1x1, .f32⟩
  | .hbm, ⟨2, _⟩ => ⟨S1x768x1x1, .f32⟩
  | .hbm, ⟨3, _⟩ => ⟨S768x768, .f32⟩
  | .hbm, ⟨4, _⟩ => ⟨S768x256, .f32⟩
  | .hbm, ⟨5, _⟩ => ⟨S768, .f32⟩
  | .hbm, ⟨6, _⟩ => ⟨S_, .f32⟩
  | .hbm, ⟨7, _⟩ => ⟨S8x32x32, .f32⟩
  | .hbm, ⟨8, _⟩ => ⟨S8x1x32x32, .f32⟩
  | .hbm, ⟨9, _⟩ => ⟨S_, .f32⟩
  | .hbm, ⟨10, _⟩ => ⟨S8x1x32x32, .f32⟩
  | .hbm, ⟨11, _⟩ => ⟨S8x1x32x32, .f32⟩
  | .hbm, ⟨12, _⟩ => ⟨S8x768x32x32, .f32⟩
  | .hbm, ⟨13, _⟩ => ⟨S8x768x32x32, .f32⟩
  | .hbm, ⟨14, _⟩ => ⟨S8x768x32x32, .f32⟩
  | .hbm, ⟨15, _⟩ => ⟨S_, .f32⟩
  | .hbm, ⟨16, _⟩ => ⟨S8x32x32, .f32⟩
  | .hbm, ⟨17, _⟩ => ⟨S8x1x32x32, .f32⟩
  | .hbm, ⟨18, _⟩ => ⟨S_, .f32⟩
  | .hbm, ⟨19, _⟩ => ⟨S8x1x32x32, .f32⟩
  | .hbm, ⟨20, _⟩ => ⟨S8x1x32x32, .f32⟩
  | .hbm, ⟨21, _⟩ => ⟨S8x768x32x32, .f32⟩
  | .hbm, ⟨22, _⟩ => ⟨S8x768x32x32, .f32⟩
  | .hbm, ⟨23, _⟩ => ⟨S_, .f32⟩
  | .hbm, ⟨24, _⟩ => ⟨S8x1x32x32, .f32⟩
  | .hbm, ⟨25, _⟩ => ⟨S8x1x32x32, .f32⟩
  | .hbm, ⟨26, _⟩ => ⟨S8x1x32x32, .f32⟩
  | .hbm, ⟨27, _⟩ => ⟨S8x768x32x32, .f32⟩
  | .hbm, ⟨28, _⟩ => ⟨S8x768x32x32, .f32⟩
  | .hbm, ⟨29, _⟩ => ⟨S8x768x32x32, .f32⟩
  | .hbm, ⟨30, _⟩ => ⟨S8x768x32x32, .f32⟩
  | .hbm, ⟨31, _⟩ => ⟨S8x768x32x32, .f32⟩
  | .hbm, ⟨32, _⟩ => ⟨S8x768x32x32, .f32⟩
  | .hbm, ⟨33, _⟩ => ⟨S768x8x32x32, .f32⟩
  | .hbm, ⟨34, _⟩ => ⟨S8x768x32x32, .f32⟩
  | .hbm, ⟨35, _⟩ => ⟨S8x256x32x32, .f32⟩
  | .hbm, ⟨36, _⟩ => ⟨S8x256x32x32, .f32⟩
  | .hbm, ⟨37, _⟩ => ⟨S8x256x32x32, .f32⟩
  | .hbm, ⟨38, _⟩ => ⟨S8x8x32x32x32, .f32⟩
  | .hbm, ⟨39, _⟩ => ⟨S8x8x32x32x32, .f32⟩
  | .hbm, ⟨40, _⟩ => ⟨S8x8x32x32x32, .f32⟩
  | .hbm, ⟨41, _⟩ => ⟨S8x8x32x32x32, .f32⟩
  | .hbm, ⟨42, _⟩ => ⟨S_, .f32⟩
  | .hbm, ⟨43, _⟩ => ⟨S8x8x32x32, .f32⟩
  | .hbm, ⟨44, _⟩ => ⟨S8x8x32x32x1, .f32⟩
  | .hbm, ⟨45, _⟩ => ⟨S8x8x32x32x1, .f32⟩
  | .hbm, ⟨46, _⟩ => ⟨S_, .f32⟩
  | .hbm, ⟨47, _⟩ => ⟨S8x8x32x32x1, .f32⟩
  | .hbm, ⟨48, _⟩ => ⟨S8x8x32x32x1, .f32⟩
  | .hbm, ⟨49, _⟩ => ⟨S8x8x32x32x32, .f32⟩
  | .hbm, ⟨50, _⟩ => ⟨S8x8x32x32x32, .f32⟩
  | .hbm, ⟨51, _⟩ => ⟨S8x8x32x32x32, .f32⟩
  | .hbm, ⟨52, _⟩ => ⟨S_, .f32⟩
  | .hbm, ⟨53, _⟩ => ⟨S8x8x32x32, .f32⟩
  | .hbm, ⟨54, _⟩ => ⟨S8x8x32x32x1, .f32⟩
  | .hbm, ⟨55, _⟩ => ⟨S8x8x32x32x1, .f32⟩
  | .hbm, ⟨56, _⟩ => ⟨S_, .f32⟩
  | .hbm, ⟨57, _⟩ => ⟨S8x8x32x32x1, .f32⟩
  | .hbm, ⟨58, _⟩ => ⟨S8x8x32x32x1, .f32⟩
  | .hbm, ⟨59, _⟩ => ⟨S8x8x32x32x32, .f32⟩
  | .hbm, ⟨60, _⟩ => ⟨S8x8x32x32x32, .f32⟩
  | .hbm, ⟨61, _⟩ => ⟨S64x1024x32, .f32⟩
  | .hbm, ⟨62, _⟩ => ⟨S64x1024x32, .f32⟩
  | .hbm, ⟨63, _⟩ => ⟨S64x1024x32, .f32⟩
  | .hbm, ⟨64, _⟩ => ⟨S64x1024x1024, .f32⟩
  | .hbm, ⟨65, _⟩ => ⟨S_, .f32⟩
  | .hbm, ⟨66, _⟩ => ⟨S64x1024, .f32⟩
  | .hbm, ⟨67, _⟩ => ⟨S_, .f32⟩
  | .hbm, ⟨68, _⟩ => ⟨S64x1024, .f32⟩
  | .hbm, ⟨69, _⟩ => ⟨S64x1024, .f32⟩
  | .hbm, ⟨70, _⟩ => ⟨S64x1024x1, .f32⟩
  | .hbm, ⟨71, _⟩ => ⟨S64x1024x1024, .f32⟩
  | .hbm, ⟨72, _⟩ => ⟨S64x1024x1024, .f32⟩
  | .hbm, ⟨73, _⟩ => ⟨S64x1024x1024, .f32⟩
  | .hbm, ⟨74, _⟩ => ⟨S_, .f32⟩
  | .hbm, ⟨75, _⟩ => ⟨S64x1024, .f32⟩
  | .hbm, ⟨76, _⟩ => ⟨S64x1024x1, .f32⟩
  | .hbm, ⟨77, _⟩ => ⟨S64x1024x1024, .f32⟩
  | .hbm, ⟨78, _⟩ => ⟨S64x1024x1024, .f32⟩
  | .hbm, ⟨79, _⟩ => ⟨S64x1024x32, .f32⟩
  | .hbm, ⟨80, _⟩ => ⟨S8x8x32x32x32, .f32⟩
  | .hbm, ⟨81, _⟩ => ⟨S8x8x32x32x32, .f32⟩
  | .hbm, ⟨82, _⟩ => ⟨S8x256x32x32, .f32⟩
  | .hbm, ⟨83, _⟩ => ⟨S768x8x32x32, .f32⟩
  | .hbm, ⟨84, _⟩ => ⟨S8x768x32x32, .f32⟩
  | .hbm, ⟨85, _⟩ => ⟨S1x768x1x1, .f32⟩
  | .hbm, ⟨86, _⟩ => ⟨S8x768x32x32, .f32⟩
  | .hbm, ⟨87, _⟩ => ⟨S8x768x32x32, .f32⟩
  | _, _ => ⟨S8x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_10 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Proof.Algebra.lean ====
/- The mathematics shared by the two programs, on plain functions into the extended reals: the layer norm over
   channels, the normalization of a vector to unit length, and softmax attention, each in the reference's form,
   with the equation that turns the kernel's form into it. -/
module

public import Idealize.ShloMosaic.PureOps.Ideal.Laws
public import Idealize.ShloMosaic.PureOps.Ideal

@[expose] public section

noncomputable section

namespace Cert.Attn

open Idealize.ShloMosaic

/-- The larger of two reals, read in the extended reals. -/
theorem coe_max (a b : ℝ) : ((max a b : ℝ) : EReal) = max (a : EReal) (b : EReal) :=
  EReal.coe_strictMono.monotone.map_max

/-- A finite sum of reals, read in the extended reals. -/
theorem coe_sum {n : Nat} (f : Fin n → ℝ) : ((∑ i, f i : ℝ) : EReal) = ∑ i, (f i : EReal) :=
  map_sum (⟨⟨fun x : ℝ => (x : EReal), EReal.coe_zero⟩, EReal.coe_add⟩ : ℝ →+ EReal) f Finset.univ

/-- A square in the extended reals is not negative. -/
theorem sq_nonneg (x : EReal) : 0 ≤ x * x := by
  induction x with
  | bot => simp
  | top => simp
  | coe r => rw [← EReal.coe_mul]; exact_mod_cast mul_self_nonneg r

/-- A sum of squares is not negative. -/
theorem sum_sq_nonneg {n : Nat} (q : Fin n → EReal) : 0 ≤ ∑ d, q d * q d :=
  Finset.sum_nonneg fun d _ => sq_nonneg (q d)

/-- Multiplying by the reciprocal square root of a positive number is dividing by its square root. -/
theorem mul_rsqrt (x v : EReal) (hv : 0 < v) : x * Ideal.rsqrt v = Ideal.div x (Ideal.sqrt v) := by
  induction v with
  | bot => simp at hv
  | top => simp [Ideal.div]
  | coe r =>
    have hr : 0 < r := by exact_mod_cast hv
    have hs : Real.sqrt r ≠ 0 := (Real.sqrt_pos.2 hr).ne'
    rw [Ideal.rsqrt_coe, Ideal.sqrt_coe, if_neg (not_lt.2 hr.le), if_neg hr.ne', if_neg (not_lt.2 hr.le),
      Ideal.div_coe hs, one_div]

/-- The square root of the larger of `s` and a square is the larger of the roots. -/
theorem sqrt_max (s : EReal) (hs : 0 ≤ s) (c : ℝ) (hc : 0 < c) :
    Ideal.sqrt (max s ((c * c : ℝ) : EReal)) = max (Ideal.sqrt s) ((c : ℝ) : EReal) := by
  induction s with
  | bot => simp at hs
  | top => simp
  | coe r =>
    have hr : 0 ≤ r := by exact_mod_cast hs
    have h1 : ¬ max r (c * c) < 0 := not_lt.2 (le_max_of_le_left hr)
    rw [← coe_max, Ideal.sqrt_coe, Ideal.sqrt_coe, if_neg h1, if_neg (not_lt.2 hr), ← coe_max]
    congr 1
    rw [Real.sqrt_monotone.map_max, Real.sqrt_mul_self hc.le]

/-- The kernel's normalization, by the reciprocal root of the floored square sum, is the reference's, by the floored
    root. -/
theorem normalize_eq (x s : EReal) (hs : 0 ≤ s) (c : ℝ) (hc : 0 < c) :
    x * Ideal.rsqrt (max s ((c * c : ℝ) : EReal)) = Ideal.div x (max (Ideal.sqrt s) ((c : ℝ) : EReal)) := by
  have h : 0 < max s ((c * c : ℝ) : EReal) :=
    lt_max_of_lt_right (by exact_mod_cast mul_pos hc hc)
  rw [mul_rsqrt x _ h, sqrt_max s hs c hc]

/-- Being a real number: neither infinity. -/
def IsReal (x : EReal) : Prop := ∃ r : ℝ, x = (r : EReal)

/-- A finite sum of products of real numbers is real. -/
theorem isReal_dot {n : Nat} (a b : Fin n → EReal) (ha : ∀ d, IsReal (a d)) (hb : ∀ d, IsReal (b d)) :
    IsReal (∑ d, a d * b d) := by
  choose a' ha using ha
  choose b' hb using hb
  refine ⟨∑ d, a' d * b' d, ?_⟩
  rw [coe_sum]
  exact Finset.sum_congr rfl fun d _ => by rw [ha, hb, EReal.coe_mul]

/-- A vector divided by its floored length is a vector of real numbers, whatever the vector: where the length is
    infinite the quotient is zero. -/
theorem isReal_normalized {n : Nat} (q : Fin n → EReal) (c : ℝ) (hc : 0 < c) (d : Fin n) :
    IsReal (Ideal.div (q d) (max (Ideal.sqrt (∑ e, q e * q e)) ((c : ℝ) : EReal))) := by
  have hle : q d * q d ≤ ∑ e, q e * q e :=
    Finset.single_le_sum (f := fun e => q e * q e) (fun e _ => sq_nonneg (q e)) (Finset.mem_univ d)
  have hnn := sum_sq_nonneg q
  generalize (∑ e, q e * q e) = s at hle hnn
  induction s with
  | bot => simp at hnn
  | top => exact ⟨0, by simp [Ideal.div]⟩
  | coe r =>
    have hr : 0 ≤ r := by exact_mod_cast hnn
    have hm : max (Real.sqrt r) c ≠ 0 := (lt_max_of_lt_right hc).ne'
    rw [Ideal.sqrt_coe, if_neg (not_lt.2 hr), ← coe_max, Ideal.div_coe hm]
    generalize q d = x at hle
    induction x with
    | bot => simp at hle
    | top => simp at hle
    | coe y => exact ⟨y * (1 / max (Real.sqrt r) c), by rw [EReal.coe_mul]⟩

/-- A nonnegative real factor may be taken out of a sum of arbitrary extended reals. -/
theorem sum_mul_real {n : Nat} (f : Fin n → EReal) (z : ℝ) (hz : 0 ≤ z) :
    (∑ m, f m) * (z : EReal) = ∑ m, f m * (z : EReal) := by
  have hz' : (0 : EReal) ≤ (z : EReal) := by exact_mod_cast hz
  exact map_sum (⟨⟨fun x : EReal => x * (z : EReal), zero_mul _⟩, fun x y =>
    EReal.right_distrib_of_nonneg_of_ne_top hz' (EReal.coe_ne_top z) x y⟩ : EReal →+ EReal) f Finset.univ

/-- Softmax attention two ways: weights from shifted scores, each divided by the weights' sum and then summed against
    `v`, equal the unshifted weighted sum divided once by the unshifted weights' sum. -/
theorem softmax_eq {n : Nat} (hn : 0 < n) (s v : Fin n → EReal) (hs : ∀ m, IsReal (s m)) (M : EReal)
    (hM : IsReal M) :
    (∑ m, Ideal.div (Ideal.exp (s m - M)) (∑ k, Ideal.exp (s k - M)) * v m)
      = Ideal.div (∑ m, Ideal.exp (s m) * v m) (∑ k, Ideal.exp (s k) * 1) := by
  haveI : Nonempty (Fin n) := ⟨⟨0, hn⟩⟩
  choose r hr using hs
  obtain ⟨M, rfl⟩ := hM
  obtain rfl : s = fun m => ((r m : ℝ) : EReal) := funext hr
  have hZ : 0 < ∑ k, Real.exp (r k) := Finset.sum_pos (fun k _ => Real.exp_pos _) Finset.univ_nonempty
  have hE : (∑ k, Ideal.exp (((r k : ℝ) : EReal) - ((M : ℝ) : EReal)))
      = (((∑ k, Real.exp (r k)) * Real.exp (-M) : ℝ) : EReal) := by
    rw [Finset.sum_mul, coe_sum]
    exact Finset.sum_congr rfl fun k _ => by
      rw [← EReal.coe_sub, Ideal.exp_coe, ← Real.exp_add, sub_eq_add_neg]
  have hS : (∑ k, Ideal.exp ((r k : ℝ) : EReal) * 1) = ((∑ k, Real.exp (r k) : ℝ) : EReal) := by
    rw [coe_sum]
    exact Finset.sum_congr rfl fun k _ => by rw [Ideal.exp_coe, mul_one]
  have hne : (∑ k, Real.exp (r k)) * Real.exp (-M) ≠ 0 := (mul_pos hZ (Real.exp_pos _)).ne'
  simp only [hE, hS]
  rw [Ideal.div_coe hZ.ne', sum_mul_real _ _ (by positivity)]
  refine Finset.sum_congr rfl fun m _ => ?_
  rw [Ideal.div_coe hne, ← EReal.coe_sub, Ideal.exp_coe, Ideal.exp_coe, ← EReal.coe_mul, mul_right_comm,
    ← EReal.coe_mul]
  congr 2
  rw [sub_eq_add_neg, Real.exp_add]
  have := Real.exp_pos (-M)
  field_simp

/-- A maximum taken from minus infinity over finitely many real numbers, at least one, is real. -/
theorem isReal_sup {n : Nat} (hn : 0 < n) (s : Fin n → EReal) (hs : ∀ m, IsReal (s m)) :
    IsReal (Finset.univ.sup s) := by
  haveI : Nonempty (Fin n) := ⟨⟨0, hn⟩⟩
  obtain ⟨m, -, h⟩ := Finset.exists_mem_eq_sup Finset.univ Finset.univ_nonempty s
  rw [h]; exact hs m

end Cert.Attn
-- ==== Proof.Spec.lean ====
/- What the programs compute, by coordinates: the constants' values, and the specification both are proved to meet. -/
module

public import proofs.«01_k».proof.Defs
public import proofs.«01_k».proof.Proof.Algebra
public import Idealize.ShloMosaic.Lib.Pointwise

@[expose] public section

noncomputable section

namespace Cert.Attn

open Idealize.ShloMosaic

/-- The floor on a vector's length: the exact value of the reference's word. -/
def floor : ℝ := 2305843 / 2305843009213693952

/-- The floor is positive. -/
theorem floor_pos : 0 < floor := by unfold floor; norm_num

/-- The reference's word is the floor. -/
theorem ofBits_floor : Ideal.ofBits .f32 0x2B8CBCCC#32 = ((floor : ℝ) : EReal) := by
  unfold floor
  simp [Ideal.ofBits, Ideal.ieee, -EReal.coe_mul]; norm_num

/-- The kernel's named constant is the floor's square. -/
theorem named_floor : Named.named (F := Ideal) Cert.KernelIdeal.κ (φ := .f32) "floor_sq" 0x179ABE15#32
    = ((floor * floor : ℝ) : EReal) :=
  (IdealRules.named_const.ideal_named_scalar _ _ _ _ rfl).trans (by unfold floor; congr 1; norm_num)

/-- The word of one. -/
theorem ofBits_one : Ideal.ofBits .f32 0x3F800000#32 = 1 := by
  simp [Ideal.ofBits, Ideal.ieee, -EReal.coe_mul]; norm_num
/-- The word of one in the narrow format. -/
theorem ofBits_one16 : Ideal.ofBits .bf16 0x3F80#16 = 1 := by
  simp [Ideal.ofBits, Ideal.ieee, -EReal.coe_mul]; norm_num
/-- The word of zero. -/
theorem ofBits_zero : Ideal.ofBits .f32 0x00000000#32 = 0 := by
  simp [Ideal.ofBits, Ideal.ieee, -EReal.coe_mul]
/-- The word of minus infinity. -/
theorem ofBits_negInf : Ideal.ofBits .f32 0xFF800000#32 = ⊥ := by
  simp [Ideal.ofBits, Ideal.ieee, -EReal.coe_mul]

/-- The number of channels, as both programs write it. -/
abbrev chans : EReal := Ideal.ofBits .f32 0x44400000#32

/-- The number added to the variance, as both programs write it. -/
abbrev eps : EReal := Ideal.ofBits .f32 0x3727C5AC#32

/-- The number of channels is 768. -/
theorem chans_eq : chans = ((768 : ℝ) : EReal) := by
  simp [chans, Ideal.ofBits, Ideal.ieee, -EReal.coe_mul]; norm_num

/-- The number added to the variance is positive. -/
theorem eps_pos : 0 < eps := by
  have : ∃ r : ℝ, 0 < r ∧ eps = ((r : ℝ) : EReal) :=
    ⟨10995116 / 2 ^ 40, by norm_num, by simp [eps, Ideal.ofBits, Ideal.ieee, -EReal.coe_mul]; norm_num⟩
  obtain ⟨r, hr, h⟩ := this
  rw [h]; exact_mod_cast hr

/-- The mean of a pixel's channels. -/
def mean (x : Fin 768 → EReal) : EReal := Ideal.div (∑ c, x c) chans

/-- The variance of a pixel's channels. -/
def var (x : Fin 768 → EReal) : EReal := Ideal.div (∑ c, (x c - mean x) * (x c - mean x)) chans

/-- The layer norm over a pixel's channels, with gain `g` and shift `b`. -/
def norm (x g b : Fin 768 → EReal) (c : Fin 768) : EReal :=
  Ideal.div (x c - mean x) (Ideal.sqrt (var x + eps)) * g c + b c

/-- The root's argument is positive, whatever the pixel holds. -/
theorem var_eps_pos (x : Fin 768 → EReal) : 0 < var x + eps := by
  have h := sum_sq_nonneg (fun c => x c - mean x)
  have : 0 ≤ var x := by
    unfold var
    rw [chans_eq, Ideal.div_coe (by norm_num)]
    exact mul_nonneg h (by exact_mod_cast (by norm_num : (0 : ℝ) ≤ 1 / 768))
  exact lt_of_lt_of_le eps_pos (le_add_of_nonneg_left this)

/-- The layer norm by the reciprocal root, as the kernel takes it. -/
theorem norm_eq (x g b : Fin 768 → EReal) (c : Fin 768) :
    (x c - mean x) * Ideal.rsqrt (var x + eps) * g c + b c = norm x g b c := by
  unfold norm; rw [mul_rsqrt _ _ (var_eps_pos x)]

/-- A vector over its floored length. -/
def unit (q : Fin 32 → EReal) (d : Fin 32) : EReal :=
  Ideal.div (q d) (max (Ideal.sqrt (∑ e, q e * q e)) ((floor : ℝ) : EReal))

/-- The same by the reciprocal root, as the kernel takes it. -/
theorem unit_eq (q : Fin 32 → EReal) (d : Fin 32) :
    q d * Ideal.rsqrt (max (∑ e, q e * q e) ((floor * floor : ℝ) : EReal)) = unit q d :=
  normalize_eq _ _ (sum_sq_nonneg q) _ floor_pos

/-- The score of query row `n` against key row `m`. -/
def score (q k : Fin 1024 → Fin 32 → EReal) (n m : Fin 1024) : EReal := ∑ d, unit (q n) d * unit (k m) d

/-- A score is a real number, whatever the rows hold. -/
theorem isReal_score (q k : Fin 1024 → Fin 32 → EReal) (n m : Fin 1024) : IsReal (score q k n m) :=
  isReal_dot _ _ (isReal_normalized _ _ floor_pos) (isReal_normalized _ _ floor_pos)

/-- One head's attention: unshifted weights, one division. -/
def attend (q k v : Fin 1024 → Fin 32 → EReal) (n : Fin 1024) (d : Fin 32) : EReal :=
  Ideal.div (∑ m, Ideal.exp (score q k n m) * v m d) (∑ m, Ideal.exp (score q k n m) * 1)

/-- The same with weights shifted by any real number and divided one by one, as the reference takes it. -/
theorem attend_eq (q k v : Fin 1024 → Fin 32 → EReal) (n : Fin 1024) (d : Fin 32) (M : EReal) (hM : IsReal M) :
    (∑ m, Ideal.div (Ideal.exp (score q k n m - M)) (∑ j, Ideal.exp (score q k n j - M)) * v m d) = attend q k v n d :=
  softmax_eq (by norm_num) _ (fun m => v m d) (isReal_score q k n) M hM

/-- The projection of the normalized pixel: row `o` of `w` against it. -/
def project (w : Fin 768 → EReal) (x g b : Fin 768 → EReal) : EReal := ∑ c, w c * norm x g b c

/-- The output projection at channel `o` and pixel `p` of the heads' attention `A`, where head `h`'s channel `j` at pixel
    `32 * y + x` is its row `32 * x + j`, coordinate `y`. -/
def output (w : Fin 768 → Fin 256 → EReal) (bias : Fin 768 → EReal) (A : Fin 8 → Fin 1024 → Fin 32 → EReal)
    (o : Fin 768) (p : Fin 1024) : EReal :=
  (∑ k : Fin 256, w o k * A ⟨k.val / 32, by omega⟩ ⟨p.val % 32 * 32 + k.val % 32, by omega⟩ ⟨p.val / 32, by omega⟩)
    + bias o

/-- One head's rows, read from the projection's channels `off + 32 * h` on: row `n`'s coordinate `d` is channel
    `n / 32`'s pixel `32 * (n % 32) + d`. -/
def headRows (off : ℕ) (ho : off ≤ 512) (w : Fin 768 → Fin 768 → EReal) (g b : Fin 768 → EReal)
    (x : Fin 768 → Fin 1024 → EReal) (h : Fin 8) (n : Fin 1024) (d : Fin 32) : EReal :=
  project (w ⟨off + (h.val * 32 + n.val / 32), by omega⟩) (fun k => x k ⟨n.val % 32 * 32 + d.val, by omega⟩) g b

/-- The whole block for one image `x`, at channel `o` and pixel `p`. -/
def block (w : Fin 768 → Fin 768 → EReal) (g b : Fin 768 → EReal) (wo : Fin 768 → Fin 256 → EReal)
    (bias : Fin 768 → EReal) (x : Fin 768 → Fin 1024 → EReal) (o : Fin 768) (p : Fin 1024) : EReal :=
  output wo bias (fun h => attend (headRows 0 (by omega) w g b x h) (headRows 256 (by omega) w g b x h)
    (headRows 512 (by omega) w g b x h)) o p

end Cert.Attn
-- ==== Proof.Region0.lean ====
/- Region 0 (the layer norm and the projection to queries, keys and values): what its payload computes at an index. -/
module

public import proofs.«01_k».proof.Proof.Gen.KernelIdeal.Frame
public import proofs.«01_k».proof.Proof.Spec
public import Idealize.ShloMosaic.Lib.Pointwise
public import Idealize.ShloMosaic.Lib.Pipeline.ValueKit

@[expose] public section

set_option maxRecDepth 16384

noncomputable section

namespace Cert.KernelIdeal.Val

open Cert.KernelIdeal Cert.KernelIdeal.Gen Cert.Attn Idealize.ShloMosaic Idealize.ShloMosaic.TcCoe Idealize.SL.Sem
open Idealize.ShloMosaic.Pipeline (Dat)

/-- The payload's matrix product at an index: the projection of the normalized pixel. -/
theorem pay3_apply (v0 : Vec Ideal S1x768x1024 .f32) (v1 v2 : Vec Ideal S768 .f32) (v3 : Vec Ideal S768x768 .bf16)
    (o : Fin 768) (p : Fin 1024) :
    k0_pay3 (F := Ideal) v0 v1 v2 v3 (ix2 o p)
      = project (fun c => v3 (ix2 o c)) (fun c => v0 (ix3 0 c p)) (fun c => v1 (ix1 c)) (fun c => v2 (ix1 c)) := by
  unfold k0_pay3
  pointwise
  exact Finset.sum_congr rfl fun c _ => by rw [← norm_eq]; rfl

variable (V : (c : Dev nD) → (b : Ref sig .tc) → Buf (Elt Ideal) ((c : Thread nD τ).loc b))

/-- The projection of pixel `p` of image `b` by row `o` of the weights, from the arrays region 0 reads. -/
def qkv (c : Dev nD) (b : Fin 8) (o : Fin 768) (p : Fin 1024) : EReal :=
  project (fun k => V c main_v3 (ix2 o k)) (fun k => V c main_v0 (ix3 b k p)) (fun k => V c main_v1 (ix1 k))
    (fun k => V c main_v2 (ix1 k))

/-- Where region 0's windows stand at a grid point: the images' and the results' at that image, the rest at the start. -/
theorem index0 : ∀ t : Fin grid0.N, win0_0.index t = ![t.val, 0, 0] ∧ win0_1.index t = ![0] ∧ win0_2.index t = ![0]
    ∧ win0_3.index t = ![0, 0] ∧ win0_4.index t = ![t.val, 0, 0] ∧ win0_5.index t = ![t.val, 0, 0]
    ∧ win0_6.index t = ![t.val, 0, 0] := by
  decide +kernel

/-- The matrix product over a point's blocks is the projection of that point's image. -/
theorem pay3_blk (c : Dev nD) (t : Fin grid0.N) (b : Fin 8) (hb : b.val = t.val) (o : Fin 768) (p : Fin 1024) :
    k0_pay3 (F := Ideal) (iblk0 V c 0 t) (iblk0 V c 1 t) (iblk0 V c 2 t) (iblk0 V c 3 t) (ix2 o p) = qkv V c b o p := by
  obtain ⟨e0, e1, e2, e3, -⟩ := index0 t
  rw [pay3_apply]
  unfold qkv
  congr 1 <;> funext k <;> blk_ext [iblk0, e0, e1, e2, e3]

/-- The queries' payload at an index: row `(y 1)` of the product. -/
theorem pay_4 (v0 : Vec Ideal S1x768x1024 .f32) (v1 v2 : Vec Ideal S768 .f32) (v3 : Vec Ideal S768x768 .bf16)
    (y : S1x256x1024.Idx) :
    k0_pay4 (F := Ideal) v0 v1 v2 v3 y = k0_pay3 (F := Ideal) v0 v1 v2 v3 (ix2 (n0 := 768) (n1 := 1024) ⟨(y 1).val, by have := (y 1).isLt; change _ < 256 at this; omega⟩ (y 2)) := by
  unfold k0_pay4
  generalize k0_pay3 v0 v1 v2 v3 = z
  idx_vars y
  pointwise

/-- The queries' array after region 0: rows 0 to 255 of the projection. -/
theorem final0_4 (c : Dev nD) : (dat0 V c).arrAt 4 cfg0.N = fun i : S8x256x1024.Idx =>
    qkv V c (i 0) ⟨(i 1).val, by have := (i 1).isLt; change _ < 256 at this; omega⟩ (i 2) := by
  refine (dat0 V c).arrAt_eq_of_covers 4 _ (by decide +kernel) fun t hf y => ?_
  have e := index0 t
  blk_simp
  rw [after0_4]
  frame_out
  refine (pay_4 _ _ _ _ y).trans ((pay3_blk V c t (((View.whole main_v5_0).slice (win0_4.rect t)).emb y 0) ?_ _ _).trans ?_)
  · blk_simp [e]
  · congr 1 <;> refine Fin.ext ?_ <;> blk_simp [e]

/-- The keys' payload at an index: row `256 + (y 1)` of the product. -/
theorem pay_5 (v0 : Vec Ideal S1x768x1024 .f32) (v1 v2 : Vec Ideal S768 .f32) (v3 : Vec Ideal S768x768 .bf16)
    (y : S1x256x1024.Idx) :
    k0_pay1 (F := Ideal) (k0_pay5 v0 v1 v2 v3) y = k0_pay3 (F := Ideal) v0 v1 v2 v3 (ix2 (n0 := 768) (n1 := 1024) ⟨256 + (y 1).val, by have := (y 1).isLt; change _ < 256 at this; omega⟩ (y 2)) := by
  unfold k0_pay1 k0_pay5
  generalize k0_pay3 v0 v1 v2 v3 = z
  idx_vars y
  pointwise

/-- The keys' array after region 0: rows 256 to 511 of the projection. -/
theorem final0_5 (c : Dev nD) : (dat0 V c).arrAt 5 cfg0.N = fun i : S8x256x1024.Idx =>
    qkv V c (i 0) ⟨256 + (i 1).val, by have := (i 1).isLt; change _ < 256 at this; omega⟩ (i 2) := by
  refine (dat0 V c).arrAt_eq_of_covers 5 _ (by decide +kernel) fun t hf y => ?_
  have e := index0 t
  blk_simp
  rw [after0_5]
  frame_out
  refine (pay_5 _ _ _ _ y).trans ((pay3_blk V c t (((View.whole main_v5_1).slice (win0_5.rect t)).emb y 0) ?_ _ _).trans ?_)
  · blk_simp [e]
  · congr 1 <;> refine Fin.ext ?_ <;> blk_simp [e]

/-- The values' payload at an index: row `512 + (y 1)` of the product. -/
theorem pay_6 (v0 : Vec Ideal S1x768x1024 .f32) (v1 v2 : Vec Ideal S768 .f32) (v3 : Vec Ideal S768x768 .bf16)
    (y : S1x256x1024.Idx) :
    k0_pay2 (F := Ideal) (k0_pay3 v0 v1 v2 v3) y = k0_pay3 (F := Ideal) v0 v1 v2 v3 (ix2 (n0 := 768) (n1 := 1024) ⟨512 + (y 1).val, by have := (y 1).isLt; change _ < 256 at this; omega⟩ (y 2)) := by
  unfold k0_pay2
  generalize k0_pay3 v0 v1 v2 v3 = z
  idx_vars y
  pointwise

/-- The values' array after region 0: rows 512 to 767 of the projection. -/
theorem final0_6 (c : Dev nD) : (dat0 V c).arrAt 6 cfg0.N = fun i : S8x256x1024.Idx =>
    qkv V c (i 0) ⟨512 + (i 1).val, by have := (i 1).isLt; change _ < 256 at this; omega⟩ (i 2) := by
  refine (dat0 V c).arrAt_eq_of_covers 6 _ (by decide +kernel) fun t hf y => ?_
  have e := index0 t
  blk_simp
  rw [after0_6]
  frame_out
  refine (pay_6 _ _ _ _ y).trans ((pay3_blk V c t (((View.whole main_v5_2).slice (win0_6.rect t)).emb y 0) ?_ _ _).trans ?_)
  · blk_simp [e]
  · congr 1 <;> refine Fin.ext ?_ <;> blk_simp [e]

end Cert.KernelIdeal.Val
-- ==== Proof.Head.lean ====
/- Region 1 (attention and the output projection): what one head's payload computes at an index. -/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.KernelIdeal.Val

open Cert.KernelIdeal Cert.KernelIdeal.Gen Cert.Attn Idealize.ShloMosaic Idealize.ShloMosaic.TcCoe Idealize.SL.Sem

/-- The vectors of a head's block: row `n`, coordinate `d`. -/
abbrev rows (v : Vec Ideal S1x1x1024x32 .bf16) (n : Fin 1024) (d : Fin 32) : EReal := v (ix4 0 0 n d)

/-- A head's payload at an index: the head's attention. -/
theorem pay_head (q k v : Vec Ideal S1x1x1024x32 .bf16) (n : Fin 1024) (d : Fin 32) :
    k1_pay3 (F := Ideal) q k v (ix2 n d) = attend (rows q) (rows k) (rows v) n d := by
  unfold k1_pay3 k1_pay2
  pointwise [named_floor, ofBits_one, ofBits_one16]
  simp only [attend, score, ← unit_eq, mul_one]

/-- The other heads' payloads are the same function. -/
theorem pay_heads (q k v : Vec Ideal S1x1x1024x32 .bf16) (z : FVec Ideal S32x8 .f32) (hz : z = k1_pay2) :
    k1_pay5 (F := Ideal) z q k v = k1_pay3 q k v ∧ k1_pay7 (F := Ideal) z q k v = k1_pay3 q k v
      ∧ k1_pay9 (F := Ideal) z q k v = k1_pay3 q k v ∧ k1_pay11 (F := Ideal) z q k v = k1_pay3 q k v
      ∧ k1_pay13 (F := Ideal) z q k v = k1_pay3 q k v ∧ k1_pay15 (F := Ideal) z q k v = k1_pay3 q k v
      ∧ k1_pay17 (F := Ideal) z q k v = k1_pay3 q k v := by
  subst hz
  exact ⟨rfl, rfl, rfl, rfl, rfl, rfl, rfl⟩

/-- A head's block laid out by channels: channel `j`, pixel `32 * k + i` is row `i * 32 + j`, coordinate `k`. -/
theorem pay_layout (v : FVec Ideal S1024x32 .bf16) (j : Fin 32) (p : Fin 1024) :
    k1_pay4 (F := Ideal) v (ix2 j p) = v (ix2 ⟨p.val % 32 * 32 + j.val, by omega⟩ ⟨p.val / 32, by omega⟩) := by
  unfold k1_pay4
  pointwise

/-- The other heads' layouts are the same function. -/
theorem pay_layouts (v : FVec Ideal S1024x32 .bf16) :
    k1_pay6 (F := Ideal) v = k1_pay4 v ∧ k1_pay8 (F := Ideal) v = k1_pay4 v ∧ k1_pay10 (F := Ideal) v = k1_pay4 v
      ∧ k1_pay12 (F := Ideal) v = k1_pay4 v ∧ k1_pay14 (F := Ideal) v = k1_pay4 v ∧ k1_pay16 (F := Ideal) v = k1_pay4 v :=
  ⟨rfl, rfl, rfl, rfl, rfl, rfl⟩

/-- Eight heads' channels one after another: channel `x` is channel `x % 32` of head `x / 32`. -/
theorem concat_apply (a : Fin 8 → FVec Ideal S32x1024 .bf16) (x : Fin 256) (p : Fin 1024) :
    concatenate S256x1024 0 [⟨S32x1024, a 0⟩, ⟨S32x1024, a 1⟩, ⟨S32x1024, a 2⟩, ⟨S32x1024, a 3⟩, ⟨S32x1024, a 4⟩, ⟨S32x1024, a 5⟩, ⟨S32x1024, a 6⟩, ⟨S32x1024, a 7⟩]
        concatenates_S32x1024_S32x1024_S32x1024_S32x1024_S32x1024_S32x1024_S32x1024_S32x1024_S256x1024_d0 (ix2 x p)
      = a ⟨x.val / 32, by omega⟩ (ix2 ⟨x.val % 32, by omega⟩ p) :=
  concatenate_ofFn_apply (t := S256x1024) (s₁ := S32x1024) 0 a
    concatenates_S32x1024_S32x1024_S32x1024_S32x1024_S32x1024_S32x1024_S32x1024_S32x1024_S256x1024_d0 rfl 32 rfl (ix2 x p)
    ⟨x.val / 32, by omega⟩ rfl (ix2 ⟨x.val % 32, by omega⟩ p) rfl fun b hb => match b with
    | ⟨0, _⟩ => absurd rfl hb
    | ⟨1, _⟩ => rfl

/-- The output projection at an index: row `o` of the weights against the eight heads' channels, plus the bias. -/
theorem pay_proj (a : Fin 8 → FVec Ideal S32x1024 .bf16) (z : FVec Ideal S1024x32 .bf16) (hz : a 7 = k1_pay4 z)
    (w : Vec Ideal S768x256 .bf16) (b : Vec Ideal S768 .f32) (o : Fin 768) (p : Fin 1024) :
    k1_pay1 (F := Ideal) (a 0) (a 1) (a 2) (a 3) (a 4) (a 5) (a 6) z w b (ix3 0 o p)
      = (∑ c : Fin 256, w (ix2 o c) * a ⟨c.val / 32, by omega⟩ (ix2 ⟨c.val % 32, by omega⟩ p)) + b (ix1 o) := by
  unfold k1_pay4 at hz
  dsimp only at hz
  unfold k1_pay1
  dsimp only
  rw [← hz]
  simp only [← concat_apply a]
  generalize concatenate S256x1024 0 _ _ = A
  pointwise

end Cert.KernelIdeal.Val
-- ==== Proof.Region1.lean ====
/- Region 1: its result array after the run, from the arrays it reads. -/
module

public import proofs.«01_k».proof.Proof.Head

@[expose] public section

set_option maxRecDepth 16384

noncomputable section

namespace Cert.KernelIdeal.Val

open Cert.KernelIdeal Cert.KernelIdeal.Gen Cert.Attn Idealize.ShloMosaic Idealize.ShloMosaic.TcCoe Idealize.SL.Sem

/-- Head `h` of an image's block, loaded. -/
def headLd (x : Vec Ideal S1x8x1024x32 .bf16) (h : Fin 8) : Vec Ideal S1x1x1024x32 .bf16 := match h with
  | ⟨0, _⟩ => View.ld x r1_0 | ⟨1, _⟩ => View.ld x r1_1 | ⟨2, _⟩ => View.ld x r1_2 | ⟨3, _⟩ => View.ld x r1_3
  | ⟨4, _⟩ => View.ld x r1_4 | ⟨5, _⟩ => View.ld x r1_5 | ⟨6, _⟩ => View.ld x r1_6 | ⟨7, _⟩ => View.ld x r1_7

/-- The loaded head's rows are the block's. -/
theorem rows_headLd (x : Vec Ideal S1x8x1024x32 .bf16) (h : Fin 8) (n : Fin 1024) (d : Fin 32) :
    rows (headLd x h) n d = x (ix4 0 h n d) := by
  match h with
  | ⟨0, _⟩ | ⟨1, _⟩ | ⟨2, _⟩ | ⟨3, _⟩ | ⟨4, _⟩ | ⟨5, _⟩ | ⟨6, _⟩ | ⟨7, _⟩ =>
    unfold headLd rows; pointwise

/-- Head `h`'s attention over a block, laid out by channels. -/
def headOut (q k v : Vec Ideal S1x8x1024x32 .bf16) (h : Fin 8) : FVec Ideal S32x1024 .bf16 :=
  k1_pay4 (k1_pay3 (headLd q h) (headLd k h) (headLd v h))

/-- The same at an index. -/
theorem headOut_apply (q k v : Vec Ideal S1x8x1024x32 .bf16) (h : Fin 8) (j : Fin 32) (p : Fin 1024) :
    headOut q k v h (ix2 j p) = attend (fun n d => q (ix4 0 h n d)) (fun n d => k (ix4 0 h n d))
      (fun n d => v (ix4 0 h n d)) ⟨p.val % 32 * 32 + j.val, by omega⟩ ⟨p.val / 32, by omega⟩ := by
  unfold headOut
  rw [pay_layout, pay_head]
  simp only [← rows_headLd]

/-- What a point stores, at an index: the output projection of the eight heads' attention over the point's blocks. -/
theorem out_apply (q k v : Vec Ideal S1x8x1024x32 .bf16) (w : Vec Ideal S768x256 .bf16) (b : Vec Ideal S768 .f32)
    (o : Fin 768) (p : Fin 1024) :
    out1_5 (F := Ideal) q k v w b (ix3 0 o p)
      = (∑ c : Fin 256, w (ix2 o c) * attend (fun n d => q (ix4 0 ⟨c.val / 32, by omega⟩ n d))
          (fun n d => k (ix4 0 ⟨c.val / 32, by omega⟩ n d)) (fun n d => v (ix4 0 ⟨c.val / 32, by omega⟩ n d))
          ⟨p.val % 32 * 32 + c.val % 32, by omega⟩ ⟨p.val / 32, by omega⟩) + b (ix1 o) := by
  have h : out1_5 (F := Ideal) q k v w b = k1_pay1 (headOut q k v 0) (headOut q k v 1) (headOut q k v 2)
      (headOut q k v 3) (headOut q k v 4) (headOut q k v 5) (headOut q k v 6)
      (k1_pay3 (headLd q 7) (headLd k 7) (headLd v 7)) w b := by
    unfold out1_5
    frame_out
    rfl
  rw [h, pay_proj (headOut q k v) _ rfl]
  simp only [headOut_apply]

variable (V : (c : Dev nD) → (b : Ref sig .tc) → Buf (Elt Ideal) ((c : Thread nD τ).loc b))

/-- Head `h`'s attention in image `b`, from the arrays region 1 reads. -/
def att (c : Dev nD) (b h : Fin 8) (n : Fin 1024) (d : Fin 32) : EReal :=
  attend (fun n d => V c main_v6 (ix4 b h n d)) (fun n d => V c main_v7 (ix4 b h n d))
    (fun n d => V c main_v8 (ix4 b h n d)) n d

/-- The output projection at channel `o` and pixel `p` of image `b`, from the arrays region 1 reads. -/
def outp (c : Dev nD) (b : Fin 8) (o : Fin 768) (p : Fin 1024) : EReal :=
  output (fun o k => V c main_v4 (ix2 o k)) (fun o => V c main_arg5 (ix1 o)) (att V c b) o p

/-- Where region 1's windows stand at a grid point: the heads' and the result's at that image, the rest at the start. -/
theorem index1 : ∀ t : Fin grid1.N, win1_0.index t = ![t.val, 0, 0, 0] ∧ win1_1.index t = ![t.val, 0, 0, 0]
    ∧ win1_2.index t = ![t.val, 0, 0, 0] ∧ win1_3.index t = ![0, 0] ∧ win1_4.index t = ![0]
    ∧ win1_5.index t = ![t.val, 0, 0] := by
  decide +kernel

/-- What a point stores over its blocks is the output projection in that point's image. -/
theorem out_blk (c : Dev nD) (t : Fin grid1.N) (b : Fin 8) (hb : b.val = t.val) (o : Fin 768) (p : Fin 1024) :
    out1_5 (F := Ideal) (iblk1 V c 0 t) (iblk1 V c 1 t) (iblk1 V c 2 t) (iblk1 V c 3 t) (iblk1 V c 4 t) (ix3 0 o p)
      = outp V c b o p := by
  obtain ⟨e0, e1, e2, e3, e4, -⟩ := index1 t
  have hq (h : Fin 8) (n : Fin 1024) (d : Fin 32) : iblk1 V c 0 t (ix4 0 h n d) = V c main_v6 (ix4 b h n d) := by
    blk_ext [iblk1, e0]
  have hk (h : Fin 8) (n : Fin 1024) (d : Fin 32) : iblk1 V c 1 t (ix4 0 h n d) = V c main_v7 (ix4 b h n d) := by
    blk_ext [iblk1, e1]
  have hv (h : Fin 8) (n : Fin 1024) (d : Fin 32) : iblk1 V c 2 t (ix4 0 h n d) = V c main_v8 (ix4 b h n d) := by
    blk_ext [iblk1, e2]
  have hw (k : Fin 256) : iblk1 V c 3 t (ix2 o k) = V c main_v4 (ix2 o k) := by blk_ext [iblk1, e3]
  have hbias : iblk1 V c 4 t (ix1 o) = V c main_arg5 (ix1 o) := by blk_ext [iblk1, e4]
  rw [out_apply]
  unfold outp output att
  simp only [hq, hk, hv, hw, hbias]

/-- The result array after region 1. -/
theorem final1_5 (c : Dev nD) : (dat1 V c).arrAt 5 cfg1.N = fun i : S8x768x1024.Idx => outp V c (i 0) (i 1) (i 2) := by
  refine (dat1 V c).arrAt_eq_of_covers 5 _ (by decide +kernel) fun t hf y => ?_
  have e := index1 t
  have hy : y = ix3 (n0 := 1) (n1 := 768) (n2 := 1024) 0 (y 1) (y 2) := by
    refine (eq_ix3 y).trans ?_
    congr 1
    exact Subsingleton.elim (α := Fin 1) _ _
  blk_simp
  rw [after1_5]
  refine (congrArg _ hy).trans ((out_blk V c t (((View.whole main_v9).slice (win1_5.rect t)).emb y 0) ?_ _ _).trans ?_)
  · blk_simp [e]
  · congr 1 <;> refine Fin.ext ?_ <;> blk_simp [e]

end Cert.KernelIdeal.Val
-- ==== Proof.KernelRun.lean ====
/- The kernel program's run: the result array at an index, from the arguments. -/
module

public import proofs.«01_k».proof.Proof.Region0
public import proofs.«01_k».proof.Proof.Region1
public import Idealize.ShloMosaic.Lib.Claim

@[expose] public section

set_option maxRecDepth 16384

noncomputable section

namespace Cert.KernelIdeal.Val

open Cert.KernelIdeal Cert.KernelIdeal.Gen Cert.Attn Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The images as region 0 reads them: the argument, its last two axes joined. -/
theorem entry_x (c : Dev nD) (b : Fin 8) (k : Fin 768) (p : Fin 1024) : V1 m ρ c main_v0 (ix3 b k p)
    = m ((c : Thread nD τ).loc main_arg0) (ix4 b k (⟨p.val / 32, by omega⟩ : Fin 32) (⟨p.val % 32, by omega⟩ : Fin 32)) := by
  change StableHlo.after hostOps0 (W0 m ρ c) (Proc.devRef .tc main_v0) (ix3 b k p) = _
  entry_read
  pointwise

/-- The gains as region 0 reads them. -/
theorem entry_g (c : Dev nD) (k : Fin 768) : V1 m ρ c main_v1 (ix1 k)
    = m ((c : Thread nD τ).loc main_arg1) (ix4 (0 : Fin 1) k (0 : Fin 1) (0 : Fin 1)) := by
  change StableHlo.after hostOps0 (W0 m ρ c) (Proc.devRef .tc main_v1) (ix1 k) = _
  entry_read
  pointwise

/-- The shifts as region 0 reads them. -/
theorem entry_b (c : Dev nD) (k : Fin 768) : V1 m ρ c main_v2 (ix1 k)
    = m ((c : Thread nD τ).loc main_arg2) (ix4 (0 : Fin 1) k (0 : Fin 1) (0 : Fin 1)) := by
  change StableHlo.after hostOps0 (W0 m ρ c) (Proc.devRef .tc main_v2) (ix1 k) = _
  entry_read
  pointwise

/-- The first projection's weights as region 0 reads them. -/
theorem entry_w (c : Dev nD) (o k : Fin 768) : V1 m ρ c main_v3 (ix2 o k)
    = m ((c : Thread nD τ).loc main_arg3) (ix2 o k) := by
  change StableHlo.after hostOps0 (W0 m ρ c) (Proc.devRef .tc main_v3) (ix2 o k) = _
  entry_read
  pointwise

/-- The output projection's weights after region 0. -/
theorem W2_main_v4 (c : Dev nD) (o : Fin 768) (k : Fin 256) : W2 m ρ c main_v4 (ix2 o k)
    = m ((c : Thread nD τ).loc main_arg4) (ix2 o k) := by
  refine (congrFun (W2_of m ρ c main_v4 (by decide)) _).trans ?_
  change StableHlo.after hostOps0 (W0 m ρ c) (Proc.devRef .tc main_v4) (ix2 o k) = _
  entry_read
  pointwise

/-- The queries as region 1 reads them. -/
theorem entry_q (c : Dev nD) (b h : Fin 8) (n : Fin 1024) (d : Fin 32) : V3 m ρ c main_v6 (ix4 b h n d)
    = qkv (V1 m ρ) c b ⟨0 + (h.val * 32 + n.val / 32), by omega⟩ ⟨n.val % 32 * 32 + d.val, by omega⟩ := by
  change StableHlo.after hostOps1 (W2 m ρ c) (Proc.devRef .tc main_v6) (ix4 b h n d) = _
  entry_read
  pointwise
  exact congrFun ((W2_arr m ρ c 4).trans (final0_4 (V1 m ρ) c)) _

/-- The keys as region 1 reads them. -/
theorem entry_k (c : Dev nD) (b h : Fin 8) (n : Fin 1024) (d : Fin 32) : V3 m ρ c main_v7 (ix4 b h n d)
    = qkv (V1 m ρ) c b ⟨256 + (h.val * 32 + n.val / 32), by omega⟩ ⟨n.val % 32 * 32 + d.val, by omega⟩ := by
  change StableHlo.after hostOps1 (W2 m ρ c) (Proc.devRef .tc main_v7) (ix4 b h n d) = _
  entry_read
  pointwise
  exact congrFun ((W2_arr m ρ c 5).trans (final0_5 (V1 m ρ) c)) _

/-- The values as region 1 reads them. -/
theorem entry_v (c : Dev nD) (b h : Fin 8) (n : Fin 1024) (d : Fin 32) : V3 m ρ c main_v8 (ix4 b h n d)
    = qkv (V1 m ρ) c b ⟨512 + (h.val * 32 + n.val / 32), by omega⟩ ⟨n.val % 32 * 32 + d.val, by omega⟩ := by
  change StableHlo.after hostOps1 (W2 m ρ c) (Proc.devRef .tc main_v8) (ix4 b h n d) = _
  entry_read
  pointwise
  exact congrFun ((W2_arr m ρ c 6).trans (final0_6 (V1 m ρ) c)) _

/-- The output projection's weights as region 1 reads them. -/
theorem entry_wo (c : Dev nD) (o : Fin 768) (k : Fin 256) : V3 m ρ c main_v4 (ix2 o k)
    = m ((c : Thread nD τ).loc main_arg4) (ix2 o k) :=
  (congrFun (W3_of m ρ c main_v4 (by decide)) _).trans (W2_main_v4 m ρ c o k)

/-- The output projection's shifts as region 1 reads them. -/
theorem entry_bo (c : Dev nD) (o : Fin 768) : V3 m ρ c main_arg5 (ix1 o)
    = m ((c : Thread nD τ).loc main_arg5) (ix1 o) :=
  congrFun (W3_args m ρ c main_arg5 (by decide)) _

/-- What region 0 projects, from the arguments. -/
theorem qkv_eq (c : Dev nD) (b : Fin 8) (o : Fin 768) (p : Fin 1024) : qkv (V1 m ρ) c b o p
    = project (fun k => m ((c : Thread nD τ).loc main_arg3) (ix2 o k))
        (fun k => m ((c : Thread nD τ).loc main_arg0) (ix4 b k (⟨p.val / 32, by omega⟩ : Fin 32) (⟨p.val % 32, by omega⟩ : Fin 32)))
        (fun k => m ((c : Thread nD τ).loc main_arg1) (ix4 (0 : Fin 1) k (0 : Fin 1) (0 : Fin 1)))
        (fun k => m ((c : Thread nD τ).loc main_arg2) (ix4 (0 : Fin 1) k (0 : Fin 1) (0 : Fin 1))) := by
  exact congr (congr (congr (congrArg project (funext fun k => entry_w m ρ c o k))
    (funext fun k => entry_x m ρ c b k p)) (funext fun k => entry_g m ρ c k)) (funext fun k => entry_b m ρ c k)

/-- The block the program computes for image `b`, from the arguments. -/
def value (c : Dev nD) (b : Fin 8) (o : Fin 768) (p : Fin 1024) : EReal :=
  block (fun o k => m ((c : Thread nD τ).loc main_arg3) (ix2 o k))
    (fun k => m ((c : Thread nD τ).loc main_arg1) (ix4 (0 : Fin 1) k (0 : Fin 1) (0 : Fin 1)))
    (fun k => m ((c : Thread nD τ).loc main_arg2) (ix4 (0 : Fin 1) k (0 : Fin 1) (0 : Fin 1)))
    (fun o k => m ((c : Thread nD τ).loc main_arg4) (ix2 o k))
    (fun o => m ((c : Thread nD τ).loc main_arg5) (ix1 o))
    (fun k p => m ((c : Thread nD τ).loc main_arg0) (ix4 b k (⟨p.val / 32, by omega⟩ : Fin 32) (⟨p.val % 32, by omega⟩ : Fin 32)))
    o p

/-- What region 1 leaves is that block. -/
theorem outp_eq (c : Dev nD) (b : Fin 8) (o : Fin 768) (p : Fin 1024) : outp (V3 m ρ) c b o p = value m c b o p := by
  have hA : att (V3 m ρ) c b = fun h => attend
      (fun n d => qkv (V1 m ρ) c b ⟨0 + (h.val * 32 + n.val / 32), by omega⟩ ⟨n.val % 32 * 32 + d.val, by omega⟩)
      (fun n d => qkv (V1 m ρ) c b ⟨256 + (h.val * 32 + n.val / 32), by omega⟩ ⟨n.val % 32 * 32 + d.val, by omega⟩)
      (fun n d => qkv (V1 m ρ) c b ⟨512 + (h.val * 32 + n.val / 32), by omega⟩ ⟨n.val % 32 * 32 + d.val, by omega⟩) := by
    funext h n d
    exact congrFun (congrFun (congr (congr (congrArg attend (funext₂ fun n d => entry_q m ρ c b h n d))
      (funext₂ fun n d => entry_k m ρ c b h n d)) (funext₂ fun n d => entry_v m ρ c b h n d)) n) d
  simp only [qkv_eq] at hA
  unfold outp value block
  exact congrFun (congrFun (congr (congr (congrArg output (funext₂ fun o k => entry_wo m ρ c o k))
    (funext fun o => entry_bo m ρ c o)) hA) o) p

/-- The result array at the end of the run, at an index. -/
theorem result_at (c : Dev nD) (b : Fin 8) (o : Fin 768) (y x : Fin 32) : W5 m ρ c main_v10 (ix4 b o y x)
    = value m c b o ⟨y.val * 32 + x.val, by omega⟩ := by
  change StableHlo.after hostOps2 (W4 m ρ c) (Proc.devRef .tc main_v10) (ix4 b o y x) = _
  entry_read
  pointwise
  exact (congrFun ((W4_arr m ρ c 5).trans (final1_5 (V3 m ρ) c)) _).trans (outp_eq m ρ c b o _)

end Cert.KernelIdeal.Val
-- ==== Proof.Ends.lean ====
/- The kernel program's run with the contents of every argument and of the result at its end. -/
module

public import proofs.«01_k».proof.Proof.KernelRun

@[expose] public section

set_option maxRecDepth 16384

noncomputable section

namespace Cert.KernelIdeal.Val

open Cert.KernelIdeal Cert.KernelIdeal.Gen Cert.Attn Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable (m : (ℓ : Loc nD τ sig) → Buf (Elt Ideal) ℓ) (ρ : Dev nD → PrngReg)

set_option backward.isDefEq.respectTransparency.types false in
/-- Every weakly fair execution ends with the result at the last boundary's contents and the arguments as launched. -/
theorem run : θ_run defs (onTc (τ := τ) (main (F := Ideal))) ⟨m, fun _ => 0, ρ⟩ (fun r => ∀ c : Dev nD,
      r.2.mem ((c.tc : Thread nD τ).loc main_v10) = W5 m ρ c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v10 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Val
-- ==== Proof.RefValue.lean ====
/- The reference's result array at an index, from the arguments. -/
module

public import proofs.«01_k».proof.Proof.Spec
public import proofs.«01_k».proof.Proof.Gen.ReferenceIdeal.Read

@[expose] public section

set_option maxRecDepth 16384

noncomputable section

namespace Cert.ReferenceIdeal.Ref

open Cert.ReferenceIdeal Cert.ReferenceIdeal.Gen Cert.ReferenceIdeal.Read Cert.Attn Idealize.ShloMosaic
open Idealize.ShloMosaic.TcCoe Idealize.SL.Sem

variable (X : (⟨S8x768x32x32, .f32⟩ : BufTy).Contents (Elt Ideal)) (G B : (⟨S1x768x1x1, .f32⟩ : BufTy).Contents (Elt Ideal))
  (W : (⟨S768x768, .f32⟩ : BufTy).Contents (Elt Ideal)) (Wo : (⟨S768x256, .f32⟩ : BufTy).Contents (Elt Ideal))
  (Bo : (⟨S768, .f32⟩ : BufTy).Contents (Elt Ideal))

/-- The channels of one pixel of image `b`. -/
def pix (b : Fin 8) (y x : Fin 32) (c : Fin 768) : EReal := X (ix4 b c y x)

/-- The pixels of one image, by channel and flat pixel number. -/
def img (b : Fin 8) (c : Fin 768) (p : Fin 1024) : EReal :=
  X (ix4 b c (⟨p.val / 32, by omega⟩ : Fin 32) (⟨p.val % 32, by omega⟩ : Fin 32))

/-- A gain or shift, by channel. -/
def chan (g : (⟨S1x768x1x1, .f32⟩ : BufTy).Contents (Elt Ideal)) (c : Fin 768) : EReal :=
  g (ix4 (0 : Fin 1) c (0 : Fin 1) (0 : Fin 1))

/-- The reference's mean at a pixel. -/
theorem mean_at (b : Fin 8) (y x : Fin 32) : val_main_v3 (F := Ideal) X (ix4 b (0 : Fin 1) y x) = mean (pix X b y x) := by
  unfold val_main_v3 val_main_v2 val_main_cst_0 val_main_v1 val_main_v0 val_main_cst
  pointwise
  rfl

/-- The reference's variance at a pixel. -/
theorem var_at (b : Fin 8) (y x : Fin 32) : val_main_v10 (F := Ideal) X (ix4 b (0 : Fin 1) y x) = var (pix X b y x) := by
  unfold val_main_v10 val_main_v9 val_main_cst_2 val_main_v8 val_main_v7 val_main_cst_1 val_main_v6 val_main_v5 val_main_v4
  pointwise
  simp only [mean_at]
  rfl

/-- The reference's layer norm at a pixel's channel. -/
theorem norm_at (b : Fin 8) (c : Fin 768) (y x : Fin 32) : val_main_v21 (F := Ideal) X G B (ix4 b c y x)
    = norm (pix X b y x) (chan G) (chan B) c := by
  unfold val_main_v21 val_main_v20 val_main_v19 val_main_v18 val_main_v17 val_main_v16 val_main_v15 val_main_v14
    val_main_v13 val_main_cst_3 val_main_v12 val_main_v11
  pointwise
  simp only [mean_at, var_at]
  rfl

/-- The reference's first projection at a pixel. -/
theorem proj_at (b : Fin 8) (o : Fin 768) (y x : Fin 32) : val_main_v23 (F := Ideal) X G B W (ix4 b o y x)
    = project (fun c => W (ix2 o c)) (pix X b y x) (chan G) (chan B) := by
  unfold val_main_v23 val_main_v22
  pointwise
  simp only [norm_at]
  rfl

/-- A pixel's channels, from the image by flat pixel number. -/
theorem pix_eq (b : Fin 8) (j d : Fin 32) (p : Fin 1024) (hp : p.val = j.val * 32 + d.val) :
    pix X b j d = fun k => img X b k p := by
  funext k
  unfold pix img
  congr 2 <;> refine Fin.ext ?_ <;> simp only [] <;> omega

/-- The reference's rows of one head. -/
def rows (off : ℕ) (ho : off ≤ 512) (b : Fin 8) : Fin 8 → Fin 1024 → Fin 32 → EReal :=
  headRows off ho (fun o k => W (ix2 o k)) (chan G) (chan B) (img X b)

/-- A projected pixel is an entry of a head's rows. -/
theorem rows_eq (off : ℕ) (ho : off ≤ 512) (b h : Fin 8) (i j d : Fin 32) (o : Fin 768)
    (eo : o.val = off + (h.val * 32 + i.val)) :
    val_main_v23 (F := Ideal) X G B W (ix4 b o j d) = rows X G B W off ho b h ⟨i.val * 32 + j.val, by omega⟩ d := by
  rw [proj_at]
  unfold rows headRows
  rw [pix_eq X b j d ⟨(i.val * 32 + j.val) % 32 * 32 + d.val, by omega⟩ (by simp only []; omega)]
  have : o = ⟨off + (h.val * 32 + (i.val * 32 + j.val) / 32), by omega⟩ := Fin.ext (by simp only []; omega)
  rw [← this]

/-- The queries' rows. -/
theorem rows27 (b h : Fin 8) (i j d : Fin 32) : val_main_v27 (F := Ideal) X G B W (ix5 b h i j d)
    = rows X G B W 0 (by omega) b h ⟨i.val * 32 + j.val, by omega⟩ d := by
  unfold val_main_v27 val_main_v24
  pointwise
  exact rows_eq X G B W 0 (by omega) b h i j d _ (by simp only []; omega)

/-- The keys' rows. -/
theorem rows28 (b h : Fin 8) (i j d : Fin 32) : val_main_v28 (F := Ideal) X G B W (ix5 b h i j d)
    = rows X G B W 256 (by omega) b h ⟨i.val * 32 + j.val, by omega⟩ d := by
  unfold val_main_v28 val_main_v25
  pointwise
  exact rows_eq X G B W 256 (by omega) b h i j d _ rfl

/-- The values' rows. -/
theorem rows29 (b h : Fin 8) (i j d : Fin 32) : val_main_v29 (F := Ideal) X G B W (ix5 b h i j d)
    = rows X G B W 512 (by omega) b h ⟨i.val * 32 + j.val, by omega⟩ d := by
  unfold val_main_v29 val_main_v26
  pointwise
  exact rows_eq X G B W 512 (by omega) b h i j d _ rfl

/-- The queries' rows over their floored lengths. -/
theorem unit37 (b h : Fin 8) (i j d : Fin 32) : val_main_v37 (F := Ideal) X G B W (ix5 b h i j d)
    = unit (rows X G B W 0 (by omega) b h ⟨i.val * 32 + j.val, by omega⟩) d := by
  unfold val_main_v37 val_main_v36 val_main_v35 val_main_v34 val_main_cst_5 val_main_v33 val_main_v32 val_main_v31
    val_main_cst_4 val_main_v30
  pointwise
  rw [ofBits_floor]
  simp only [rows27]
  rfl

/-- The keys' rows over their floored lengths. -/
theorem unit45 (b h : Fin 8) (i j d : Fin 32) : val_main_v45 (F := Ideal) X G B W (ix5 b h i j d)
    = unit (rows X G B W 256 (by omega) b h ⟨i.val * 32 + j.val, by omega⟩) d := by
  unfold val_main_v45 val_main_v44 val_main_v43 val_main_v42 val_main_cst_7 val_main_v41 val_main_v40 val_main_v39
    val_main_cst_6 val_main_v38
  pointwise
  rw [ofBits_floor]
  simp only [rows28]
  rfl

/-- A row number from its two digits. -/
theorem digits (n : Fin 1024) (h : n.val / 32 * 32 + n.val % 32 < 1024) :
    (⟨n.val / 32 * 32 + n.val % 32, h⟩ : Fin 1024) = n := Fin.ext (by simp only []; omega)

/-- The normalized queries as the products read them: `t` counts images and heads, `8` heads to an image. -/
theorem q_at (t : Fin 64) (n : Fin 1024) (d : Fin 32) : val_main_v46 (F := Ideal) X G B W (ix3 t n d)
    = unit (rows X G B W 0 (by omega) ⟨t.val / 8, by omega⟩ ⟨t.val % 8, by omega⟩ n) d := by
  unfold val_main_v46
  pointwise
  rw [unit37, digits]

/-- The normalized keys as the products read them. -/
theorem k_at (t : Fin 64) (n : Fin 1024) (d : Fin 32) : val_main_v47 (F := Ideal) X G B W (ix3 t n d)
    = unit (rows X G B W 256 (by omega) ⟨t.val / 8, by omega⟩ ⟨t.val % 8, by omega⟩ n) d := by
  unfold val_main_v47
  pointwise
  rw [unit45, digits]

/-- The values as the products read them. -/
theorem v_at (t : Fin 64) (n : Fin 1024) (d : Fin 32) : val_main_v48 (F := Ideal) X G B W (ix3 t n d)
    = rows X G B W 512 (by omega) ⟨t.val / 8, by omega⟩ ⟨t.val % 8, by omega⟩ n d := by
  unfold val_main_v48
  pointwise
  rw [rows29, digits]

/-- The scores. -/
theorem score_at (t : Fin 64) (n k : Fin 1024) : val_main_v49 (F := Ideal) X G B W (ix3 t n k)
    = score (rows X G B W 0 (by omega) ⟨t.val / 8, by omega⟩ ⟨t.val % 8, by omega⟩)
        (rows X G B W 256 (by omega) ⟨t.val / 8, by omega⟩ ⟨t.val % 8, by omega⟩) n k := by
  unfold val_main_v49
  pointwise
  simp only [q_at, k_at]
  rfl

/-- A row's largest entry from minus infinity is a real number, when the entries are. -/
theorem isReal_rowMax {n0 n1 n2 : ℕ} (hn : 0 < n2) (x : Vec Ideal ⟨3, ![n0, n1, n2]⟩ .f32) (init : Vec Ideal S_ .f32)
    (h : (⟨3, ![n0, n1, n2]⟩ : Shape).ReducesTo [2] ⟨2, ![n0, n1]⟩) (hu : 0 < S_.numel) (hi : init (Shape.Idx.first hu) = ⊥)
    (a : Fin n0) (b : Fin n1) (hx : ∀ k, IsReal (x (ix3 a b k))) :
    IsReal (Host.reduce (FloatOps.maximumf (F := Ideal) (φ := .f32)) x init h hu (ix2 a b)) := by
  rw [Host.reduce_eq_fold, h.fold_fiber_r3_a2, hi]
  exact isReal_sup hn _ hx

/-- The larger of minus infinity and a number is the number. -/
theorem max_negInf (a : Ideal .f32) : FloatOps.maximumf (F := Ideal) (φ := .f32) (FloatOps.ofBits .f32 0xFF800000#32) a = a := by
  change max (Ideal.ofBits .f32 0xFF800000#32) a = a
  rw [ofBits_negInf]
  exact max_eq_right bot_le

/-- A row's largest score is a real number. -/
theorem rowMax_at (t : Fin 64) (n : Fin 1024) : IsReal (val_main_v50 (F := Ideal) X G B W (ix2 t n)) := by
  have hx : ∀ k, IsReal (val_main_v49 (F := Ideal) X G B W (ix3 t n k)) :=
    fun k => by rw [score_at]; exact isReal_score _ _ _ _
  unfold val_main_v50
  exact isReal_rowMax (by norm_num) _ _ _ _ ofBits_negInf t n hx

/-- A row's shift is a real number. -/
theorem max_at (t : Fin 64) (n : Fin 1024) : IsReal (val_main_v52 (F := Ideal) X G B W (ix2 t n)) := by
  have e : val_main_v52 (F := Ideal) X G B W (ix2 t n) = val_main_v50 (F := Ideal) X G B W (ix2 t n) :=
    (val_main_v52_apply X G B W (ix2 t n)).trans (max_negInf _)
  rw [e]
  exact rowMax_at X G B W t n

/-- A head's attention. -/
theorem att_at (t : Fin 64) (n : Fin 1024) (d : Fin 32) : val_main_v61 (F := Ideal) X G B W (ix3 t n d)
    = attend (rows X G B W 0 (by omega) ⟨t.val / 8, by omega⟩ ⟨t.val % 8, by omega⟩)
        (rows X G B W 256 (by omega) ⟨t.val / 8, by omega⟩ ⟨t.val % 8, by omega⟩)
        (rows X G B W 512 (by omega) ⟨t.val / 8, by omega⟩ ⟨t.val % 8, by omega⟩) n d := by
  unfold val_main_v61 val_main_v60 val_main_v59 val_main_v58 val_main_v57 val_main_cst_10 val_main_v56 val_main_v55
    val_main_v54 val_main_v53
  pointwise
  simp only [score_at, v_at]
  exact attend_eq _ _ _ n d _ (max_at X G B W t n)

/-- The heads side by side in the output projection's layout. -/
theorem heads_at (b : Fin 8) (k : Fin 256) (y x : Fin 32) : val_main_v64 (F := Ideal) X G B W (ix4 b k y x)
    = val_main_v61 (F := Ideal) X G B W (ix3 (⟨b.val * 8 + k.val / 32, by omega⟩ : Fin 64)
        (⟨x.val * 32 + k.val % 32, by omega⟩ : Fin 1024) y) := by
  unfold val_main_v64 val_main_v63 val_main_v62
  pointwise

/-- The reference's result at an index. -/
theorem result_at (b : Fin 8) (o : Fin 768) (y x : Fin 32) : val_main_v69 (F := Ideal) X G B W Wo Bo (ix4 b o y x)
    = block (fun o k => W (ix2 o k)) (chan G) (chan B) (fun o k => Wo (ix2 o k)) (fun o => Bo (ix1 o)) (img X b) o
        ⟨y.val * 32 + x.val, by omega⟩ := by
  unfold val_main_v69 val_main_v68 val_main_v67 val_main_v66 val_main_v65
  pointwise
  unfold block output
  refine congrArg (· + _) (Finset.sum_congr rfl fun k _ => congrArg _ ?_)
  rw [heads_at, att_at]
  have hb : (⟨(b.val * 8 + k.val / 32) / 8, by omega⟩ : Fin 8) = b := Fin.ext (by simp only []; omega)
  have hh : (⟨(b.val * 8 + k.val / 32) % 8, by omega⟩ : Fin 8) = ⟨k.val / 32, by omega⟩ :=
    Fin.ext (by simp only []; omega)
  have hn : (⟨x.val * 32 + k.val % 32, by omega⟩ : Fin 1024) = ⟨(y.val * 32 + x.val) % 32 * 32 + k.val % 32, by omega⟩ :=
    Fin.ext (by simp only []; omega)
  have hd : y = ⟨(y.val * 32 + x.val) / 32, by omega⟩ := Fin.ext (by simp only []; omega)
  simp only [hb, hh]
  exact congr (congrArg _ hn) hd

end Cert.ReferenceIdeal.Ref
-- ==== Proof.Agree.lean ====
/- The two programs' results are one array. -/
module

public import proofs.«01_k».proof.Proof.Ends
public import proofs.«01_k».proof.Proof.RefValue
public import proofs.«01_k».proof.Proof.Gen.ReferenceIdeal.Run

@[expose] public section

set_option maxRecDepth 16384

noncomputable section

namespace Cert.Attn

open Idealize.ShloMosaic Idealize.ShloMosaic.TcCoe Idealize.SL.Sem
open Cert.ReferenceIdeal.Read

/-- The kernel program's result at the end of its run is the reference's result on the same arguments. -/
theorem results_eq
    (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W5 m ρ c Cert.KernelIdeal.main_v10
      = val_main_v69 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  have h (i : (⟨4, ![8, 768, 32, 32]⟩ : Shape).Idx) : Cert.KernelIdeal.Gen.W5 m ρ c Cert.KernelIdeal.main_v10 i = _ :=
    (congrArg (Cert.KernelIdeal.Gen.W5 m ρ c Cert.KernelIdeal.main_v10) (eq_ix4 i)).trans
      ((Cert.KernelIdeal.Val.result_at m ρ c (i 0) (i 1) (i 2) (i 3)).trans
        ((Cert.ReferenceIdeal.Ref.result_at _ _ _ _ _ _ (i 0) (i 1) (i 2) (i 3)).symm.trans
          (congrArg _ (eq_ix4 i)).symm))
  exact funext h

end Cert.Attn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference always terminates, its arguments unchanged and its counters at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel and the reference, over exact numbers, end with one result. -/
theorem equal_results : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Gen.W5 m g c Cert.KernelIdeal.main_v10, Cert.KernelIdeal.Val.run m g, ?_⟩
  refine (θ_run Cert.ReferenceIdeal.defs _ _).mono (fun r h c => ⟨(h c).1.trans ?_, (h c).2⟩)
    (Cert.ReferenceIdeal.Value.run (F := Ideal) m' g')
  obtain ⟨a0, a1, a2, a3, a4, a5⟩ := hagree c
  refine (Cert.ReferenceIdeal.Read.val_main_v69_eq m' c).trans ?_
  rw [a0, a1, a2, a3, a4, a5]
  exact (Cert.Attn.results_eq m g c).symm

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame,
  IdealRules.named_const.statement Cert.KernelIdeal.κ "floor_sq" .f32 0x179ABE15#32
    ((5316911940649 / 5316911983139663491615228241121378304 : ℝ) : EReal) rfl,
  equal_results⟩

end Cert.Proof

end
